-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32x384x24x24 : Shape := ⟨4, ![32, 384, 24, 24]⟩
abbrev S32x24x24x384 : Shape := ⟨4, ![32, 24, 24, 384]⟩
abbrev S18432x384 : Shape := ⟨2, ![18432, 384]⟩
abbrev S2304x384 : Shape := ⟨2, ![2304, 384]⟩

abbrev nBuf : Space → Nat
  | .hbm => 6
  | .vmem => 4
  | .smem => 0
  | _ => 0

abbrev bufTy : (tb : Table) → Fin (tcTables nBuf tb) → BufTy
  | .hbm, ⟨0, _⟩ => ⟨S32x384x24x24, .f32⟩
  | .hbm, ⟨1, _⟩ => ⟨S32x24x24x384, .f32⟩
  | .hbm, ⟨2, _⟩ => ⟨S18432x384, .f32⟩
  | .hbm, ⟨3, _⟩ => ⟨S18432x384, .f32⟩
  | .hbm, ⟨4, _⟩ => ⟨S32x24x24x384, .f32⟩
  | .hbm, ⟨5, _⟩ => ⟨S32x384x24x24, .f32⟩
  | .local _ .vmem, ⟨0, _⟩ => ⟨S2304x384, .f32⟩
  | .local _ .vmem, ⟨1, _⟩ => ⟨S2304x384, .f32⟩
  | .local _ .vmem, ⟨2, _⟩ => ⟨S2304x384, .f32⟩
  | .local _ .vmem, ⟨3, _⟩ => ⟨S2304x384, .f32⟩
  | _, _ => ⟨S32x384x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32x384x24x24 : Shape := ⟨4, ![32, 384, 24, 24]⟩

abbrev nBuf : Space → Nat
  | .hbm => 1
  | .vmem => 0
  | .smem => 0
  | _ => 0

abbrev bufTy : (tb : Table) → Fin (tcTables nBuf tb) → BufTy
  | .hbm, ⟨0, _⟩ => ⟨S32x384x24x24, .f32⟩
  | _, _ => ⟨S32x384x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Layout.lean ====
/-
  THE LAYOUT: moving the channels of a (32, 384, 24, 24) array last, reading the array as 18432 rows of 384 channels,
  and undoing both. For any element type the four steps together are the identity.
-/
module

public import Idealize.ShloMosaic.PureOps
public import Idealize.ShloMosaic.Lib.Pipeline.Value

@[expose] public section

namespace Cert.Layout

open Idealize.ShloMosaic

/-- Images, channels first. -/
abbrev Nchw : Shape := ⟨4, ![32, 384, 24, 24]⟩
/-- Images, channels last. -/
abbrev Nhwc : Shape := ⟨4, ![32, 24, 24, 384]⟩
/-- One row per pixel of an image, one column per channel. -/
abbrev Rows : Shape := ⟨2, ![18432, 384]⟩

variable {α : Type}

/-- An array of images as rows of channels: the channels are moved last, then image, height and width become one axis. -/
def toRows (hp : Nchw.Transposes [0, 2, 3, 1] Nhwc) (hc : Nhwc.ShapeCasts Rows) (x : Nchw.Idx → α) : Rows.Idx → α :=
  shapeCast Rows (transpose Nhwc [0, 2, 3, 1] x hp) hc

/-- Rows of channels as an array of images again. -/
def ofRows (hc : Rows.ShapeCasts Nhwc) (hp : Nhwc.Transposes [0, 3, 1, 2] Nchw) (y : Rows.Idx → α) : Nchw.Idx → α :=
  transpose Nchw [0, 3, 1, 2] (shapeCast Nhwc y hc) hp

/-- The index of channels-last images at which element `j` of the channels-first images lies. -/
def channelsLast (j : Nchw.Idx) : Nhwc.Idx := fun
  | 0 => j 0
  | 1 => j 2
  | 2 => j 3
  | 3 => j 1

/-- Moving the channels last and then back to their place changes nothing. -/
theorem transpose_back (hp : Nchw.Transposes [0, 2, 3, 1] Nhwc) (hp' : Nhwc.Transposes [0, 3, 1, 2] Nchw) (x : Nchw.Idx → α) :
    transpose Nchw [0, 3, 1, 2] (transpose Nhwc [0, 2, 3, 1] x hp) hp' = x := by
  funext j
  rw [transpose_apply [0, 3, 1, 2] _ hp' j (channelsLast j) (fun b => by fin_cases b <;> rfl)]
  exact transpose_apply [0, 2, 3, 1] x hp (channelsLast j) j (fun b => by fin_cases b <;> rfl)

/-- An array of images written as rows of channels and read back is itself. -/
theorem ofRows_toRows (hp : Nchw.Transposes [0, 2, 3, 1] Nhwc) (hc : Nhwc.ShapeCasts Rows) (hc' : Rows.ShapeCasts Nhwc)
    (hp' : Nhwc.Transposes [0, 3, 1, 2] Nchw) (x : Nchw.Idx → α) :
    ofRows hc' hp' (toRows hp hc x) = x := by
  unfold ofRows toRows
  rw [shapeCast_shapeCast]
  exact transpose_back hp hp' x

end Cert.Layout
-- ==== Proof.KernelValue.lean ====
/-
  WHAT THE KERNEL COMPUTES, at any float type: the result array ends equal to the argument array.
  The argument is laid out as rows of channels; each grid point copies its 2304 rows; the rows are laid out as images.
-/
module

public import proofs.«01_k».proof.Proof.Gen.Kernel.Frame
public import proofs.«01_k».proof.Proof.Layout
public import Idealize.ShloMosaic.Lib.Pipeline.ValueKit

@[expose] public section

noncomputable section

namespace Cert.Kernel.CopyValue

open Idealize.ShloMosaic Idealize.ShloMosaic.TcCoe Idealize.SL.Sem
open Idealize.ShloMosaic.Pipeline (Dat)
open Cert.Kernel Cert.Kernel.Gen Cert.Layout

variable {F : FTy → Type} [FloatOps F]
variable (m : (ℓ : Loc nD τ sig) → Buf (Elt F) ℓ) (ρ : Dev nD → PrngReg)

/-- Device `c`'s argument array as rows of channels. -/
def rows (c : Dev nD) : Rows.Idx → Elt F .f32 :=
  toRows transposes_S32x384x24x24_S32x24x24x384_0_2_3_1 shapeCasts_S32x24x24x384_S18432x384 (m ((c : Thread nD τ).loc main_arg0))

/-- The pallas_call finds the argument's rows in its input array. -/
theorem entry_rows (c : Dev nD) : V m c main_v1 = rows m c := by
  entry_read
  rfl

theorem zeros : (![0, 0] : Fin 2 → Nat) = fun _ => 0 := funext fun a => by fin_cases a <;> rfl

/-- The body stores the block that it loads. -/
theorem body_copies (x : Vec F S2304x384 .f32) : out0_1 x = x := by
  unfold out0_1 k0_pay1
  rw [View.canon_unit_zero zeros, View.ld_unit_zero zeros]
  exact shapeCast_self x _

/-- What a grid point writes back is its block of the argument's rows. -/
theorem flushed_rows (c : Dev nD) (t : Fin cfg0.N) :
    (dats m 0 c).flushed 1 t = ((cfg0.win 1).blk t).view.read (Elt F) (rows m c) := by
  show (cfg0.win 1).cut (grid0.coords t) ((dats m 0 c).after 1 t) = _
  rw [after0_1, body_copies, ← entry_rows]
  rfl

/-- The blocks of the grid points cover the output array. -/
theorem covers : (cfg0.win 1).Covers := by decide +kernel

/-- So the pallas_call's output array ends at the argument's rows. -/
theorem out_rows (c : Dev nD) : (dats m 0 c).arrAt 1 cfg0.N = rows m c :=
  (dats m 0 c).arrAt_eq_of_cover 1 (rows m c) (fun t _ => flushed_rows m c t)
    (covers.cover _ (Memref.isWhole_whole _))

/-- The host lines after the pallas_call lay out its output array's rows as images, whatever the memory holds. -/
theorem tail_layout (W : Valuation τ sig (Elt F)) :
    StableHlo.after [hostOps1].flatten W (Proc.devRef .tc main_v4)
      = ofRows shapeCasts_S18432x384_S32x24x24x384 transposes_S32x24x24x384_S32x384x24x24_0_3_1_2
          (W (Proc.devRef .tc main_v2)) := by
  entry_read
  rfl

/-- So the result array ends at the argument array. -/
theorem result (c : Dev nD) :
    Pipeline.afterTail₀ cfgs (dats m) 0 (V0 m) [hostOps1] c main_v4 = m ((c : Thread nD τ).loc main_arg0) := by
  unfold Pipeline.afterTail₀
  rw [tail_layout]
  have h : Pipeline.withArrays (cfgs 0).spec c (V0 m c) (fun w => (dats m 0 c).arrAt w (cfgs 0).N) (Proc.devRef .tc main_v2)
      = rows m c :=
    (Pipeline.withArrays_arr spec0 winFacts0.arr_inj c (V0 m c) (fun w => (dats m 0 c).arrAt w cfg0.N) 1).trans (out_rows m c)
  rw [h]
  exact ofRows_toRows _ _ _ _ _

/-- The run: every execution ends with the result array equal to the argument array, and the argument array unchanged. -/
theorem run : θ_run defs (onTc (τ := τ) (main (F := F))) ⟨m, fun _ => 0, ρ⟩ fun r => ∀ c : Dev nD,
      r.2.mem ((c.tc : Thread nD τ).loc main_v4) = m ((c.tc : Thread nD τ).loc main_arg0)
      ∧ r.2.mem ((c.tc : Thread nD τ).loc main_arg0) = m ((c.tc : Thread nD τ).loc main_arg0) :=
  (θ_run defs _ _).mono (fun _ h c =>
      ⟨((h c).2 main_v4 (Pipeline.mem_restRefs_of main_v4 (by decide) (by decide))).trans (result m c),
        ((h c).2 main_arg0 (Pipeline.mem_restRefs_of main_arg0 (by decide) (by decide))).trans (W_main_arg0 m (dats m) c)⟩)
    (run_main m ρ)

end Cert.Kernel.CopyValue

end
-- ==== Proof.KernelIdealValue.lean ====
/-
  The kernel's ideal reading is the same text, so what the kernel computes at any float type it computes too.
-/
module

public import proofs.«01_k».proof.Proof.Gen.KernelIdeal.Frame
public import proofs.«01_k».proof.Proof.KernelValue

@[expose] public section

noncomputable section

namespace Cert.KernelIdeal.CopyValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The two texts' tables of kernel bodies are one. -/
theorem bodies_eq : defs₀ (F := F) = Cert.Kernel.defs₀ := by
  unfold defs₀ Cert.Kernel.defs₀
  exact congrArg Defs.onTc (funext fun l => by
    obtain ⟨_ | n, h⟩ := l
    · rfl
    · exact absurd h (Nat.not_lt.2 (Nat.le_add_left _ _)))

/-- And so are their tables of bodies and pipelines. -/
theorem defs_eq : defs (F := F) = Cert.Kernel.defs :=
  congrArg (Pipeline.defs pcfgs) bodies_eq

/-- Every execution ends with the result array equal to the argument array, and the argument array unchanged. -/
theorem run : θ_run defs (onTc (τ := τ) (main (F := F))) ⟨m, fun _ => 0, ρ⟩ fun r => ∀ c : Dev nD,
      r.2.mem ((c.tc : Thread nD τ).loc main_v4) = m ((c.tc : Thread nD τ).loc main_arg0)
      ∧ r.2.mem ((c.tc : Thread nD τ).loc main_arg0) = m ((c.tc : Thread nD τ).loc main_arg0) :=
  by rw [defs_eq]; exact Cert.Kernel.CopyValue.run m ρ

end Cert.KernelIdeal.CopyValue

end
-- ==== Proof.ReferenceRun.lean ====
/-
  THE REFERENCE: a program of no operation, which returns its argument. It ends at once, its memory as at the start,
  and it has no semaphore. The same for its ideal reading.
-/
module

public import proofs.«01_k».proof.Proof.Gen.Reference
public import proofs.«01_k».proof.Proof.Gen.ReferenceIdeal
public import Idealize.ShloMosaic.Lib.StableHlo.Run
public import Idealize.ShloMosaic.Lib.Quiescent

@[expose] public section

noncomputable section

open Idealize.ShloMosaic Idealize.ShloMosaic.TcCoe Idealize.SL.Sem

namespace Cert.Reference.Identity

open Cert.Reference

variable {F : FTy → Type} [FloatOps F]
variable (m : (ℓ : Loc nD τ sig) → Buf (Elt F) ℓ) (ρ : Dev nD → PrngReg)

/-- Every execution of the reference ends with its argument, which is its result, unchanged, and no counter set. -/
theorem run : θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Reference.Identity

namespace Cert.ReferenceIdeal.Identity

open Cert.ReferenceIdeal

variable {F : FTy → Type} [FloatOps F]
variable (m : (ℓ : Loc nD τ sig) → Buf (Elt F) ℓ) (ρ : Dev nD → PrngReg)

/-- The same of the reference's ideal reading. -/
theorem run : θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  Cert.Reference.Identity.run m ρ

end Cert.ReferenceIdeal.Identity

end
-- ==== Proof.lean ====
/-
  The certificate: the kernel and the reference run without fault and leave their arguments and counters as they were;
  the kernel's result is its argument, which is what the reference returns, both over the extended reals and word for word.
-/
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.KernelIdealValue
public import proofs.«01_k».proof.Proof.ReferenceRun

@[expose] public section

noncomputable section

namespace Cert.Proof

open Idealize.ShloMosaic Idealize.SL.Sem

/-- Over the extended reals both results are the kernel's argument. -/
theorem algebraic : Cert.algebraic_KernelIdeal_ReferenceIdeal := fun m ρ m' ρ' _ hagree =>
  ⟨fun c => m ((c.tc : Thread KernelIdeal.nD KernelIdeal.τ).loc KernelIdeal.main_arg0),
    KernelIdeal.CopyValue.run m ρ,
    (θ_run ReferenceIdeal.defs _ _).mono (fun _ h c => ⟨(h.1 c).trans (hagree c), h.1 c⟩) (ReferenceIdeal.Identity.run m' ρ')⟩

/-- And they are the same words. -/
theorem bitexact : Cert.bitexact_Kernel_Reference := fun m ρ m' ρ' _ hagree =>
  ⟨fun c => m ((c.tc : Thread Kernel.nD Kernel.τ).loc Kernel.main_arg0),
    Kernel.CopyValue.run m ρ,
    (θ_run Reference.defs _ _).mono (fun _ h c => ⟨(h.1 c).trans (hagree c), h.1 c⟩) (Reference.Identity.run m' ρ')⟩

theorem claim : Cert.Claim :=
  ⟨Cert.Kernel.Gen.facts, Cert.KernelIdeal.Gen.facts, Cert.Reference.Gen.facts, Cert.ReferenceIdeal.Gen.facts,
    fun m ρ _ => Cert.Kernel.Gen.frame m ρ,
    fun m ρ _ => Cert.KernelIdeal.Gen.frame m ρ,
    fun m ρ _ => Cert.Reference.Identity.run m ρ,
    fun m ρ _ => Cert.ReferenceIdeal.Identity.run m ρ,
    trivial, algebraic, bitexact⟩

end Cert.Proof

end
